-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x32768 : Shape := ⟨3, ![32, 1, 32768]⟩
abbrev S32x1x64x64 : Shape := ⟨4, ![32, 1, 64, 64]⟩
abbrev S32x65536x512 : Shape := ⟨3, ![32, 65536, 512]⟩
abbrev S32x65536 : Shape := ⟨2, ![32, 65536]⟩
abbrev S32x65536x64 : Shape := ⟨3, ![32, 65536, 64]⟩
abbrev S32x64x512 : Shape := ⟨3, ![32, 64, 512]⟩
abbrev S32x64x64 : Shape := ⟨3, ![32, 64, 64]⟩
abbrev S32x1x65536 : Shape := ⟨3, ![32, 1, 65536]⟩
abbrev S1x64x512 : Shape := ⟨3, ![1, 64, 512]⟩
abbrev S1x64x64 : Shape := ⟨3, ![1, 64, 64]⟩
abbrev S1x2048x512 : Shape := ⟨3, ![1, 2048, 512]⟩
abbrev S1x1x2048 : Shape := ⟨3, ![1, 1, 2048]⟩
abbrev S1x2048x64 : Shape := ⟨3, ![1, 2048, 64]⟩
abbrev S64x1 : Shape := ⟨2, ![64, 1]⟩
abbrev S64x512 : Shape := ⟨2, ![64, 512]⟩
abbrev S64x64 : Shape := ⟨2, ![64, 64]⟩
abbrev S2048x512 : Shape := ⟨2, ![2048, 512]⟩
abbrev S1x2048 : Shape := ⟨2, ![1, 2048]⟩
abbrev S2048x64 : Shape := ⟨2, ![2048, 64]⟩
abbrev S64x2048 : Shape := ⟨2, ![64, 2048]⟩
abbrev S64 : Shape := ⟨1, ![64]⟩

abbrev nBuf : Space → Nat
  | .hbm => 9
  | .vmem => 15
  | .smem => 0
  | _ => 0

abbrev bufTy : (tb : Table) → Fin (tcTables nBuf tb) → BufTy
  | .hbm, ⟨0, _⟩ => ⟨S32x1x32768, .bf16⟩
  | .hbm, ⟨1, _⟩ => ⟨S32x1x64x64, .bf16⟩
  | .hbm, ⟨2, _⟩ => ⟨S32x65536x512, .fp8e4m3⟩
  | .hbm, ⟨3, _⟩ => ⟨S32x65536, .f32⟩
  | .hbm, ⟨4, _⟩ => ⟨S32x65536x64, .bf16⟩
  | .hbm, ⟨5, _⟩ => ⟨S32x64x512, .bf16⟩
  | .hbm, ⟨6, _⟩ => ⟨S32x64x64, .bf16⟩
  | .hbm, ⟨7, _⟩ => ⟨S32x1x65536, .f32⟩
  | .hbm, ⟨8, _⟩ => ⟨S32x64x512, .bf16⟩
  | .local _ .vmem, ⟨0, _⟩ => ⟨S1x64x512, .bf16⟩
  | .local _ .vmem, ⟨1, _⟩ => ⟨S1x64x512, .bf16⟩
  | .local _ .vmem, ⟨2, _⟩ => ⟨S1x64x64, .bf16⟩
  | .local _ .vmem, ⟨3, _⟩ => ⟨S1x64x64, .bf16⟩
  | .local _ .vmem, ⟨4, _⟩ => ⟨S1x2048x512, .fp8e4m3⟩
  | .local _ .vmem, ⟨5, _⟩ => ⟨S1x2048x512, .fp8e4m3⟩
  | .local _ .vmem, ⟨6, _⟩ => ⟨S1x1x2048, .f32⟩
  | .local _ .vmem, ⟨7, _⟩ => ⟨S1x1x2048, .f32⟩
  | .local _ .vmem, ⟨8, _⟩ => ⟨S1x2048x64, .bf16⟩
  | .local _ .vmem, ⟨9, _⟩ => ⟨S1x2048x64, .bf16⟩
  | .local _ .vmem, ⟨10, _⟩ => ⟨S1x64x512, .bf16⟩
  | .local _ .vmem, ⟨11, _⟩ => ⟨S1x64x512, .bf16⟩
  | .local _ .vmem, ⟨12, _⟩ => ⟨S64x1, .f32⟩
  | .local _ .vmem, ⟨13, _⟩ => ⟨S64x1, .f32⟩
  | .local _ .vmem, ⟨14, _⟩ => ⟨S64x512, .f32⟩
  | _, _ => ⟨S32x1x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 32], ![false, false]⟩

def k0_cond2 (i : grid0.Coords) : BitVec 1 :=
  let arg1 : BitVec 32 := BitVec.ofNat 32 (i 1).val
  let c31_i32 : BitVec 32 := 31#32
  let v51 : BitVec 1 := Scalar.cmpi .eq arg1 c31_i32
  let v52 : BitVec 32 := Scalar.extui v51
  let c0_i32_32 : BitVec 32 := 0#32
  let v53 : BitVec 1 := Scalar.cmpi .ne v52 c0_i32_32
  v53

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S32x1x32768 : Shape := ⟨3, ![32, 1, 32768]⟩
abbrev S32x1x64x64 : Shape := ⟨4, ![32, 1, 64, 64]⟩
abbrev S32x65536x512 : Shape := ⟨3, ![32, 65536, 512]⟩
abbrev S32x65536 : Shape := ⟨2, ![32, 65536]⟩
abbrev S32x65536x64 : Shape := ⟨3, ![32, 65536, 64]⟩
abbrev S32x64x512 : Shape := ⟨3, ![32, 64, 512]⟩
abbrev S32x64x64 : Shape := ⟨3, ![32, 64, 64]⟩
abbrev S32x1x65536 : Shape := ⟨3, ![32, 1, 65536]⟩
abbrev S32x64x65536 : Shape := ⟨3, ![32, 64, 65536]⟩
abbrev S32x64 : Shape := ⟨2, ![32, 64]⟩
abbrev S32x64x1 : Shape := ⟨3, ![32, 64, 1]⟩

abbrev nBuf : Space → Nat
  | .hbm => 8
  | .vmem => 6
  | .smem => 0
  | _ => 0

abbrev bufTy : (tb : Table) → Fin (tcTables nBuf tb) → BufTy
  | .hbm, ⟨0, _⟩ => ⟨S32x1x32768, .bf16⟩
  | .hbm, ⟨1, _⟩ => ⟨S32x1x64x64, .bf16⟩
  | .hbm, ⟨2, _⟩ => ⟨S32x65536x512, .fp8e4m3⟩
  | .hbm, ⟨3, _⟩ => ⟨S32x65536, .f32⟩
  | .hbm, ⟨4, _⟩ => ⟨S32x65536x64, .bf16⟩
  | .hbm, ⟨5, _⟩ => ⟨S32x64x512, .bf16⟩
  | .hbm, ⟨6, _⟩ => ⟨S32x64x64, .bf16⟩
  | .hbm, ⟨7, _⟩ => ⟨S32x64x512, .bf16⟩
  | .local _ .vmem, ⟨0, _⟩ => ⟨S32x64x512, .bf16⟩
  | .local _ .vmem, ⟨1, _⟩ => ⟨S32x64x64, .bf16⟩
  | .local _ .vmem, ⟨2, _⟩ => ⟨S32x65536x512, .fp8e4m3⟩
  | .local _ .vmem, ⟨3, _⟩ => ⟨S32x65536, .f32⟩
  | .local _ .vmem, ⟨4, _⟩ => ⟨S32x65536x64, .bf16⟩
  | .local _ .vmem, ⟨5, _⟩ => ⟨S32x64x512, .bf16⟩
  | _, _ => ⟨S32x1x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S32x64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x65536x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x65536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x65536x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Case.lean ====
/- What the kernel's body leaves in its buffers, case by case, as the printed payloads of the blocks it loads and of what the
   point before left in the three carried scratch arrays (running maximum, denominator, numerator). -/
module

public import proofs.«01_k».proof.Proof.Gen.KernelIdeal.Frame
public import Idealize.ShloMosaic.Lib.Pipeline.Value
public import Idealize.ShloMosaic.Lib.Tactic

@[expose] public section

noncomputable section

open Idealize.ShloMosaic Idealize.ShloMosaic.TcCoe Idealize.SL.Sem

namespace Cert.KernelIdeal.Case

open Cert.KernelIdeal Cert.KernelIdeal.Gen

variable {F : FTy → Type} [FloatOps F]

/-- Two zero offsets. -/
theorem hz2 : (![0, 0] : Fin 2 → Nat) = fun _ => 0 := funext fun a => by fin_cases a <;> rfl
/-- Three zero offsets. -/
theorem hz3 : (![0, 0, 0] : Fin 3 → Nat) = fun _ => 0 := funext fun a => by fin_cases a <;> rfl

/-- The new running maximum, over the old one. -/
abbrev newM (x0 : Vec F S1x64x512 .bf16) (x1 : Vec F S1x64x64 .bf16) (x2 : Vec F S1x2048x512 .fp8e4m3) (x3 : Vec F S1x1x2048 .f32) (x4 : Vec F S1x2048x64 .bf16) (a : Vec F S64x1 .f32) : Vec F S64x1 .f32 :=
  k0_pay2 (k0_pay11 x0 x1 x2 x3 x4 a)

/-- The new running denominator, over the old maximum and the old denominator. -/
abbrev newL (x0 : Vec F S1x64x512 .bf16) (x1 : Vec F S1x64x64 .bf16) (x2 : Vec F S1x2048x512 .fp8e4m3) (x3 : Vec F S1x1x2048 .f32) (x4 : Vec F S1x2048x64 .bf16) (a l : Vec F S64x1 .f32) : Vec F S64x1 .f32 :=
  k0_pay1 (k0_pay13 x0 x1 x2 x3 x4 a) (k0_pay14 x0 x1 x2 x3 x4 a l)

/-- The new running numerator, over the old maximum and the old numerator. -/
abbrev newO (x0 : Vec F S1x64x512 .bf16) (x1 : Vec F S1x64x64 .bf16) (x2 : Vec F S1x2048x512 .fp8e4m3) (x3 : Vec F S1x1x2048 .f32) (x4 : Vec F S1x2048x64 .bf16) (a : Vec F S64x1 .f32) (o : Vec F S64x512 .f32) : Vec F S64x512 .f32 :=
  k0_pay3 (k0_pay8 x2) (k0_pay9 x3) (k0_pay12 x0 x1 x2 x3 x4 a) (k0_pay13 x0 x1 x2 x3 x4 a) o

section
variable (c : Dev nD) (i : grid0.Coords)
  (a2 : Memref sig .tc .vmem S1x64x512 .bf16) (h2 : a2.IsWhole) (a3 : Memref sig .tc .vmem S1x64x64 .bf16) (h3 : a3.IsWhole)
  (a4 : Memref sig .tc .vmem S1x2048x512 .fp8e4m3) (h4 : a4.IsWhole) (a5 : Memref sig .tc .vmem S1x1x2048 .f32) (h5 : a5.IsWhole)
  (a6 : Memref sig .tc .vmem S1x2048x64 .bf16) (h6 : a6.IsWhole) (a7 : Memref sig .tc .vmem S1x64x512 .bf16) (h7 : a7.IsWhole)
  (a8 : Memref sig .tc .vmem S64x1 .f32) (h8 : a8.IsWhole) (a9 : Memref sig .tc .vmem S64x1 .f32) (h9 : a9.IsWhole)
  (a10 : Memref sig .tc .vmem S64x512 .f32) (h10 : a10.IsWhole)
  (x0 : Vec F S1x64x512 .bf16) (x1 : Vec F S1x64x64 .bf16) (x2 : Vec F S1x2048x512 .fp8e4m3) (x3 : Vec F S1x1x2048 .f32) (x4 : Vec F S1x2048x64 .bf16)
  (xs0 : Vec F S64x1 .f32) (xs1 : Vec F S64x1 .f32) (xs2 : Vec F S64x512 .f32)

/-- The running maximum a row's first point leaves (the scratch reset first). -/
theorem sout_A_0 (hc0 : cond0_0 i) (hc1 : ¬cond0_1 i) :
    sout0_A_0 c i a2 h2 a3 h3 a4 h4 a5 h5 a6 h6 a7 h7 a8 h8 a9 h9 a10 h10 hc0 hc1 x0 x1 x2 x3 x4 = newM x0 x1 x2 x3 x4 k0_pay5 := by
  unfold sout0_A_0
  rw [View.read_writes_eq_canon _ _ _ (scover0_A_0 c i a2 h2 a3 h3 a4 h4 a5 h5 a6 h6 a7 h7 a8 h8 a9 h9 a10 h10 hc0 hc1 x0 x1 x2 x3 x4)]
  unfold kernelRun0_A
  dsimp only
  sl_unfold_words
  rw [View.canon_cons_unit_zero (S := S64x1) hz2]
  simp only [View.readCov_unit_zero (S := S64x1) _ hz2, View.readCov_unit_zero (S := S64x512) _ hz2]
  simp only [View.readAt_eq_ld, h2.read_unread, h3.read_unread, h4.read_unread, h5.read_unread, h6.read_unread, h8.read_unread,
    h9.read_unread, h10.read_unread, View.ld_unit_zero (S := S1x64x512) hz3, View.ld_unit_zero (S := S1x64x64) hz3,
    View.ld_unit_zero (S := S1x2048x512) hz3, View.ld_unit_zero (S := S1x1x2048) hz3, View.ld_unit_zero (S := S1x2048x64) hz3,
    View.ld_unit_zero (S := S64x1) hz2, View.ld_unit_zero (S := S64x512) hz2]

/-- The running denominator a row's first point leaves (the scratch reset first). -/
theorem sout_A_1 (hc0 : cond0_0 i) (hc1 : ¬cond0_1 i) :
    sout0_A_1 c i a2 h2 a3 h3 a4 h4 a5 h5 a6 h6 a7 h7 a8 h8 a9 h9 a10 h10 hc0 hc1 x0 x1 x2 x3 x4 = newL x0 x1 x2 x3 x4 k0_pay5 k0_pay6 := by
  unfold sout0_A_1
  rw [View.read_writes_eq_canon _ _ _ (scover0_A_1 c i a2 h2 a3 h3 a4 h4 a5 h5 a6 h6 a7 h7 a8 h8 a9 h9 a10 h10 hc0 hc1 x0 x1 x2 x3 x4)]
  unfold kernelRun0_A
  dsimp only
  sl_unfold_words
  rw [View.canon_cons_unit_zero (S := S64x1) hz2]
  simp only [View.readCov_unit_zero (S := S64x1) _ hz2, View.readCov_unit_zero (S := S64x512) _ hz2]
  simp only [View.readAt_eq_ld, h2.read_unread, h3.read_unread, h4.read_unread, h5.read_unread, h6.read_unread, h8.read_unread,
    h9.read_unread, h10.read_unread, View.ld_unit_zero (S := S1x64x512) hz3, View.ld_unit_zero (S := S1x64x64) hz3,
    View.ld_unit_zero (S := S1x2048x512) hz3, View.ld_unit_zero (S := S1x1x2048) hz3, View.ld_unit_zero (S := S1x2048x64) hz3,
    View.ld_unit_zero (S := S64x1) hz2, View.ld_unit_zero (S := S64x512) hz2]

/-- The running numerator a row's first point leaves (the scratch reset first). -/
theorem sout_A_2 (hc0 : cond0_0 i) (hc1 : ¬cond0_1 i) :
    sout0_A_2 c i a2 h2 a3 h3 a4 h4 a5 h5 a6 h6 a7 h7 a8 h8 a9 h9 a10 h10 hc0 hc1 x0 x1 x2 x3 x4 = newO x0 x1 x2 x3 x4 k0_pay5 k0_pay7 := by
  unfold sout0_A_2
  rw [View.read_writes_eq_canon _ _ _ (scover0_A_2 c i a2 h2 a3 h3 a4 h4 a5 h5 a6 h6 a7 h7 a8 h8 a9 h9 a10 h10 hc0 hc1 x0 x1 x2 x3 x4)]
  unfold kernelRun0_A
  dsimp only
  sl_unfold_words
  rw [View.canon_cons_unit_zero (S := S64x512) hz2]
  simp only [View.readCov_unit_zero (S := S64x1) _ hz2, View.readCov_unit_zero (S := S64x512) _ hz2]
  simp only [View.readAt_eq_ld, h2.read_unread, h3.read_unread, h4.read_unread, h5.read_unread, h6.read_unread, h8.read_unread,
    h9.read_unread, h10.read_unread, View.ld_unit_zero (S := S1x64x512) hz3, View.ld_unit_zero (S := S1x64x64) hz3,
    View.ld_unit_zero (S := S1x2048x512) hz3, View.ld_unit_zero (S := S1x1x2048) hz3, View.ld_unit_zero (S := S1x2048x64) hz3,
    View.ld_unit_zero (S := S64x1) hz2, View.ld_unit_zero (S := S64x512) hz2]

/-- The running maximum a row's middle point leaves. -/
theorem sout_B_0 (hc0 : ¬cond0_0 i) (hc1 : ¬cond0_1 i) :
    sout0_B_0 c i a2 h2 a3 h3 a4 h4 a5 h5 a6 h6 a7 h7 a8 h8 a9 h9 a10 h10 hc0 hc1 x0 x1 x2 x3 x4 xs0 xs1 xs2 = newM x0 x1 x2 x3 x4 xs0 := by
  unfold sout0_B_0
  rw [View.read_writes_eq_canon _ _ _ (scover0_B_0 c i a2 h2 a3 h3 a4 h4 a5 h5 a6 h6 a7 h7 a8 h8 a9 h9 a10 h10 hc0 hc1 x0 x1 x2 x3 x4 xs0 xs1 xs2)]
  unfold kernelRun0_B
  dsimp only
  sl_unfold_words
  rw [View.canon_unit_zero hz2]
  simp only [View.readAt_eq_ld, h2.read_unread, h3.read_unread, h4.read_unread, h5.read_unread, h6.read_unread, h8.read_unread,
    h9.read_unread, h10.read_unread, View.ld_unit_zero (S := S1x64x512) hz3, View.ld_unit_zero (S := S1x64x64) hz3,
    View.ld_unit_zero (S := S1x2048x512) hz3, View.ld_unit_zero (S := S1x1x2048) hz3, View.ld_unit_zero (S := S1x2048x64) hz3,
    View.ld_unit_zero (S := S64x1) hz2, View.ld_unit_zero (S := S64x512) hz2]

/-- The running denominator a row's middle point leaves. -/
theorem sout_B_1 (hc0 : ¬cond0_0 i) (hc1 : ¬cond0_1 i) :
    sout0_B_1 c i a2 h2 a3 h3 a4 h4 a5 h5 a6 h6 a7 h7 a8 h8 a9 h9 a10 h10 hc0 hc1 x0 x1 x2 x3 x4 xs0 xs1 xs2 = newL x0 x1 x2 x3 x4 xs0 xs1 := by
  unfold sout0_B_1
  rw [View.read_writes_eq_canon _ _ _ (scover0_B_1 c i a2 h2 a3 h3 a4 h4 a5 h5 a6 h6 a7 h7 a8 h8 a9 h9 a10 h10 hc0 hc1 x0 x1 x2 x3 x4 xs0 xs1 xs2)]
  unfold kernelRun0_B
  dsimp only
  sl_unfold_words
  rw [View.canon_unit_zero hz2]
  simp only [View.readAt_eq_ld, h2.read_unread, h3.read_unread, h4.read_unread, h5.read_unread, h6.read_unread, h8.read_unread,
    h9.read_unread, h10.read_unread, View.ld_unit_zero (S := S1x64x512) hz3, View.ld_unit_zero (S := S1x64x64) hz3,
    View.ld_unit_zero (S := S1x2048x512) hz3, View.ld_unit_zero (S := S1x1x2048) hz3, View.ld_unit_zero (S := S1x2048x64) hz3,
    View.ld_unit_zero (S := S64x1) hz2, View.ld_unit_zero (S := S64x512) hz2]

/-- The running numerator a row's middle point leaves. -/
theorem sout_B_2 (hc0 : ¬cond0_0 i) (hc1 : ¬cond0_1 i) :
    sout0_B_2 c i a2 h2 a3 h3 a4 h4 a5 h5 a6 h6 a7 h7 a8 h8 a9 h9 a10 h10 hc0 hc1 x0 x1 x2 x3 x4 xs0 xs1 xs2 = newO x0 x1 x2 x3 x4 xs0 xs2 := by
  unfold sout0_B_2
  rw [View.read_writes_eq_canon _ _ _ (scover0_B_2 c i a2 h2 a3 h3 a4 h4 a5 h5 a6 h6 a7 h7 a8 h8 a9 h9 a10 h10 hc0 hc1 x0 x1 x2 x3 x4 xs0 xs1 xs2)]
  unfold kernelRun0_B
  dsimp only
  sl_unfold_words
  rw [View.canon_unit_zero hz2]
  simp only [View.readAt_eq_ld, h2.read_unread, h3.read_unread, h4.read_unread, h5.read_unread, h6.read_unread, h8.read_unread,
    h9.read_unread, h10.read_unread, View.ld_unit_zero (S := S1x64x512) hz3, View.ld_unit_zero (S := S1x64x64) hz3,
    View.ld_unit_zero (S := S1x2048x512) hz3, View.ld_unit_zero (S := S1x1x2048) hz3, View.ld_unit_zero (S := S1x2048x64) hz3,
    View.ld_unit_zero (S := S64x1) hz2, View.ld_unit_zero (S := S64x512) hz2]

/-- The running maximum a row's last point leaves. -/
theorem sout_C_0 (hc0 : ¬cond0_0 i) (hc1 : cond0_1 i) :
    sout0_C_0 c i a2 h2 a3 h3 a4 h4 a5 h5 a6 h6 a7 h7 a8 h8 a9 h9 a10 h10 hc0 hc1 x0 x1 x2 x3 x4 xs0 xs1 xs2 = newM x0 x1 x2 x3 x4 xs0 := by
  unfold sout0_C_0
  rw [View.read_writes_eq_canon _ _ _ (scover0_C_0 c i a2 h2 a3 h3 a4 h4 a5 h5 a6 h6 a7 h7 a8 h8 a9 h9 a10 h10 hc0 hc1 x0 x1 x2 x3 x4 xs0 xs1 xs2)]
  unfold kernelRun0_C
  dsimp only
  sl_unfold_words
  rw [View.canon_unit_zero hz2]
  simp only [View.readAt_eq_ld, h2.read_unread, h3.read_unread, h4.read_unread, h5.read_unread, h6.read_unread, h8.read_unread,
    h9.read_unread, h10.read_unread, View.ld_unit_zero (S := S1x64x512) hz3, View.ld_unit_zero (S := S1x64x64) hz3,
    View.ld_unit_zero (S := S1x2048x512) hz3, View.ld_unit_zero (S := S1x1x2048) hz3, View.ld_unit_zero (S := S1x2048x64) hz3,
    View.ld_unit_zero (S := S64x1) hz2, View.ld_unit_zero (S := S64x512) hz2]

/-- The running denominator a row's last point leaves. -/
theorem sout_C_1 (hc0 : ¬cond0_0 i) (hc1 : cond0_1 i) :
    sout0_C_1 c i a2 h2 a3 h3 a4 h4 a5 h5 a6 h6 a7 h7 a8 h8 a9 h9 a10 h10 hc0 hc1 x0 x1 x2 x3 x4 xs0 xs1 xs2 = newL x0 x1 x2 x3 x4 xs0 xs1 := by
  unfold sout0_C_1
  rw [View.read_writes_eq_canon _ _ _ (scover0_C_1 c i a2 h2 a3 h3 a4 h4 a5 h5 a6 h6 a7 h7 a8 h8 a9 h9 a10 h10 hc0 hc1 x0 x1 x2 x3 x4 xs0 xs1 xs2)]
  unfold kernelRun0_C
  dsimp only
  sl_unfold_words
  rw [View.canon_unit_zero hz2]
  simp only [View.readAt_eq_ld, h2.read_unread, h3.read_unread, h4.read_unread, h5.read_unread, h6.read_unread, h8.read_unread,
    h9.read_unread, h10.read_unread, View.ld_unit_zero (S := S1x64x512) hz3, View.ld_unit_zero (S := S1x64x64) hz3,
    View.ld_unit_zero (S := S1x2048x512) hz3, View.ld_unit_zero (S := S1x1x2048) hz3, View.ld_unit_zero (S := S1x2048x64) hz3,
    View.ld_unit_zero (S := S64x1) hz2, View.ld_unit_zero (S := S64x512) hz2]

/-- The running numerator a row's last point leaves. -/
theorem sout_C_2 (hc0 : ¬cond0_0 i) (hc1 : cond0_1 i) :
    sout0_C_2 c i a2 h2 a3 h3 a4 h4 a5 h5 a6 h6 a7 h7 a8 h8 a9 h9 a10 h10 hc0 hc1 x0 x1 x2 x3 x4 xs0 xs1 xs2 = newO x0 x1 x2 x3 x4 xs0 xs2 := by
  unfold sout0_C_2
  rw [View.read_writes_eq_canon _ _ _ (scover0_C_2 c i a2 h2 a3 h3 a4 h4 a5 h5 a6 h6 a7 h7 a8 h8 a9 h9 a10 h10 hc0 hc1 x0 x1 x2 x3 x4 xs0 xs1 xs2)]
  unfold kernelRun0_C
  dsimp only
  sl_unfold_words
  rw [View.canon_unit_zero hz2]
  simp only [View.readAt_eq_ld, h2.read_unread, h3.read_unread, h4.read_unread, h5.read_unread, h6.read_unread, h8.read_unread,
    h9.read_unread, h10.read_unread, View.ld_unit_zero (S := S1x64x512) hz3, View.ld_unit_zero (S := S1x64x64) hz3,
    View.ld_unit_zero (S := S1x2048x512) hz3, View.ld_unit_zero (S := S1x1x2048) hz3, View.ld_unit_zero (S := S1x2048x64) hz3,
    View.ld_unit_zero (S := S64x1) hz2, View.ld_unit_zero (S := S64x512) hz2]

/-- The output block a row's last point leaves: the new numerator over the new denominator. -/
theorem out_C_5 (hc0 : ¬cond0_0 i) (hc1 : cond0_1 i) :
    out0_C_5 c i a2 h2 a3 h3 a4 h4 a5 h5 a6 h6 a7 h7 a8 h8 a9 h9 a10 h10 hc0 hc1 x0 x1 x2 x3 x4 xs0 xs1 xs2 = k0_pay4 (newO x0 x1 x2 x3 x4 xs0 xs2) (newL x0 x1 x2 x3 x4 xs0 xs1) := by
  unfold out0_C_5
  rw [View.read_writes_eq_canon _ _ _ (cover0_C_5 c i a2 h2 a3 h3 a4 h4 a5 h5 a6 h6 a7 h7 a8 h8 a9 h9 a10 h10 hc0 hc1 x0 x1 x2 x3 x4 xs0 xs1 xs2)]
  unfold kernelRun0_C
  dsimp only
  sl_unfold_words
  rw [View.canon_unit_zero hz3]
  simp only [View.readCov_unit_zero (S := S64x1) _ hz2, View.readCov_unit_zero (S := S64x512) _ hz2]
  simp only [View.readAt_eq_ld, h2.read_unread, h3.read_unread, h4.read_unread, h5.read_unread, h6.read_unread, h8.read_unread,
    h9.read_unread, h10.read_unread, View.ld_unit_zero (S := S1x64x512) hz3, View.ld_unit_zero (S := S1x64x64) hz3,
    View.ld_unit_zero (S := S1x2048x512) hz3, View.ld_unit_zero (S := S1x1x2048) hz3, View.ld_unit_zero (S := S1x2048x64) hz3,
    View.ld_unit_zero (S := S64x1) hz2, View.ld_unit_zero (S := S64x512) hz2]

end

end Cert.KernelIdeal.Case

end
-- ==== Proof.Math.lean ====
/- The mathematics of the online softmax, over the extended reals, with no program in sight.

   One row has scores `s t`, and per token a weight `w t` and a value `c t`. `top s n`, `den s n` and `num s w c n` are the
   maximum of the first `n` scores, the sum of their exponentials relative to that maximum, and the weighted sum of the
   values under those exponentials. Appending `B` more tokens changes the three exactly as a kernel that keeps
   (maximum, denominator, numerator) between blocks changes them (`top_step`, `den_step`, `num_step`). No score is assumed
   finite: the rescaling factor `exp (a - b)` with `a ≤ b` is always a real number in [0, 1]. -/
module

public import Idealize.ShloMosaic.PureOps.Ideal
public import Idealize.ShloMosaic.PureOps.Ideal.Laws

@[expose] public section

noncomputable section

open Idealize.ShloMosaic
open scoped BigOperators

namespace Cert.Softmax

/-- For `a ≤ b` the exponential of `a - b` is a nonnegative real number, infinite arguments included. -/
theorem exp_sub_real {a b : EReal} (h : a ≤ b) : ∃ r : ℝ, 0 ≤ r ∧ Ideal.exp (a - b) = (r : EReal) := by
  induction a using EReal.rec with
  | bot => exact ⟨0, le_rfl, by rw [EReal.bot_sub]; simp⟩
  | top =>
    obtain rfl : b = ⊤ := top_le_iff.mp h
    exact ⟨0, le_rfl, by simp⟩
  | coe x =>
    induction b using EReal.rec with
    | bot => exact absurd (le_bot_iff.mp h) (EReal.coe_ne_bot x)
    | top => exact ⟨0, le_rfl, by simp⟩
    | coe y => exact ⟨Real.exp (x - y), (Real.exp_pos _).le, by rw [← EReal.coe_sub, Ideal.exp_coe]⟩

/-- Rescaling: the exponential relative to the maximum `a`, moved to a larger maximum `b`. -/
theorem exp_rescale {s a b : EReal} (h₁ : s ≤ a) (h₂ : a ≤ b) :
    Ideal.exp (a - b) * Ideal.exp (s - a) = Ideal.exp (s - b) := by
  induction s using EReal.rec with
  | bot => rw [EReal.bot_sub, EReal.bot_sub]; simp
  | top =>
    obtain rfl : a = ⊤ := top_le_iff.mp h₁
    obtain rfl : b = ⊤ := top_le_iff.mp h₂
    simp
  | coe x =>
    induction a using EReal.rec with
    | bot => exact absurd (le_bot_iff.mp h₁) (EReal.coe_ne_bot x)
    | top =>
      obtain rfl : b = ⊤ := top_le_iff.mp h₂
      simp
    | coe y =>
      induction b using EReal.rec with
      | bot => exact absurd (le_bot_iff.mp h₂) (EReal.coe_ne_bot y)
      | top => simp
      | coe z =>
        rw [← EReal.coe_sub, ← EReal.coe_sub, ← EReal.coe_sub, Ideal.exp_coe, Ideal.exp_coe, Ideal.exp_coe,
          ← EReal.coe_mul, ← Real.exp_add]
        congr 2
        ring

/-- A nonnegative real factor goes inside a finite sum of extended reals. -/
theorem coe_mul_sum {ι : Type} {r : ℝ} (hr : 0 ≤ r) (S : Finset ι) (f : ι → EReal) :
    (r : EReal) * ∑ i ∈ S, f i = ∑ i ∈ S, (r : EReal) * f i := by
  classical
  induction S using Finset.induction_on with
  | empty => simp
  | insert i S hi ih =>
    rw [Finset.sum_insert hi, Finset.sum_insert hi, ← ih]
    exact EReal.left_distrib_of_nonneg_of_ne_top (EReal.coe_nonneg.mpr hr) (EReal.coe_ne_top r) _ _

/-- The maximum of the first `n` scores (`⊥` when there is none). -/
def top (s : ℕ → EReal) (n : ℕ) : EReal := (Finset.range n).sup s

/-- The sum of the exponentials of the first `n` scores, relative to their maximum. -/
def den (s : ℕ → EReal) (n : ℕ) : EReal := ∑ t ∈ Finset.range n, Ideal.exp (s t - top s n)

/-- The sum of the first `n` values, each under its exponential and its weight. -/
def num (s w c : ℕ → EReal) (n : ℕ) : EReal := ∑ t ∈ Finset.range n, Ideal.exp (s t - top s n) * w t * c t

/-- Every score among the first `n` is at most their maximum. -/
theorem le_top {s : ℕ → EReal} {n t : ℕ} (h : t ∈ Finset.range n) : s t ≤ top s n := Finset.le_sup h

/-- Before the first token the maximum is `⊥`. -/
theorem top_zero (s : ℕ → EReal) : top s 0 = ⊥ := rfl

/-- Before the first token the denominator is zero. -/
theorem den_zero (s : ℕ → EReal) : den s 0 = 0 := rfl

/-- Before the first token the numerator is zero. -/
theorem num_zero (s w c : ℕ → EReal) : num s w c 0 = 0 := rfl

/-- A maximum over `Fin B` written as a fold from `⊥` is the supremum over the first `B` naturals. -/
theorem fold_max_eq_sup (B : ℕ) (f : ℕ → EReal) :
    (Finset.univ : Finset (Fin B)).fold max ⊥ (fun k => f k.val) = (Finset.range B).sup f := by
  show (Finset.univ : Finset (Fin B)).sup (fun k => f k.val) = (Finset.range B).sup f
  apply le_antisymm
  · exact Finset.sup_le fun k _ => Finset.le_sup (f := f) (Finset.mem_range.mpr k.isLt)
  · exact Finset.sup_le fun t ht => Finset.le_sup (f := fun k : Fin B => f k.val) (Finset.mem_univ ⟨t, Finset.mem_range.mp ht⟩)

/-- The whole maximum as a fold over `Fin n`. -/
theorem top_eq_fold (s : ℕ → EReal) (n : ℕ) :
    top s n = (Finset.univ : Finset (Fin n)).fold max ⊥ (fun k => s k.val) := (fold_max_eq_sup n s).symm

/-- The whole denominator as a sum over `Fin n`. -/
theorem den_eq_sum (s : ℕ → EReal) (n : ℕ) : den s n = ∑ k : Fin n, Ideal.exp (s k.val - top s n) :=
  Finset.sum_range _

/-- The whole numerator as a sum over `Fin n`. -/
theorem num_eq_sum (s w c : ℕ → EReal) (n : ℕ) :
    num s w c n = ∑ k : Fin n, Ideal.exp (s k.val - top s n) * w k.val * c k.val :=
  Finset.sum_range _

/-- `B` more tokens: the new maximum is the larger of the old one and the block's. -/
theorem top_step (s : ℕ → EReal) (n B : ℕ) :
    top s (n + B) = max (top s n) ((Finset.univ : Finset (Fin B)).fold max ⊥ fun k => s (n + k.val)) := by
  rw [fold_max_eq_sup B fun k => s (n + k)]
  apply le_antisymm
  · refine Finset.sup_le fun t ht => ?_
    rcases Nat.lt_or_ge t n with h | h
    · exact le_max_of_le_left (le_top (Finset.mem_range.mpr h))
    · refine le_max_of_le_right ?_
      have e : s t = (fun k => s (n + k)) (t - n) := by dsimp only; rw [Nat.add_sub_cancel' h]
      rw [e]
      exact Finset.le_sup (f := fun k => s (n + k)) (Finset.mem_range.mpr (by have := Finset.mem_range.mp ht; omega))
  · refine max_le (Finset.sup_le fun t ht => le_top (Finset.mem_range.mpr (by have := Finset.mem_range.mp ht; omega))) ?_
    exact Finset.sup_le fun k hk => le_top (s := s) (Finset.mem_range.mpr (by have := Finset.mem_range.mp hk; omega))

/-- The maximum does not decrease. -/
theorem top_le_step (s : ℕ → EReal) (n B : ℕ) : top s n ≤ top s (n + B) := by
  rw [top_step]; exact le_max_left _ _

/-- `B` more tokens: the old denominator rescaled, plus the block's exponentials. -/
theorem den_step (s : ℕ → EReal) (n B : ℕ) :
    den s (n + B) = Ideal.exp (top s n - top s (n + B)) * den s n
      + ∑ k : Fin B, Ideal.exp (s (n + k.val) - top s (n + B)) := by
  obtain ⟨r, hr, he⟩ := exp_sub_real (top_le_step s n B)
  unfold den
  rw [Finset.sum_range_add, Finset.sum_range (fun x => Ideal.exp (s (n + x) - top s (n + B))), he, coe_mul_sum hr]
  refine congrArg (· + _) (Finset.sum_congr rfl fun t ht => ?_)
  rw [← he, exp_rescale (le_top ht) (top_le_step s n B)]

/-- `B` more tokens: the old numerator rescaled, plus the block's weighted values. -/
theorem num_step (s w c : ℕ → EReal) (n B : ℕ) :
    num s w c (n + B) = Ideal.exp (top s n - top s (n + B)) * num s w c n
      + ∑ k : Fin B, Ideal.exp (s (n + k.val) - top s (n + B)) * w (n + k.val) * c (n + k.val) := by
  obtain ⟨r, hr, he⟩ := exp_sub_real (top_le_step s n B)
  unfold num
  rw [Finset.sum_range_add, Finset.sum_range (fun x => Ideal.exp (s (n + x) - top s (n + B)) * w (n + x) * c (n + x)), he,
    coe_mul_sum hr]
  refine congrArg (· + _) (Finset.sum_congr rfl fun t ht => ?_)
  rw [← he, ← mul_assoc, ← mul_assoc, exp_rescale (le_top ht) (top_le_step s n B)]

end Cert.Softmax

end
-- ==== Proof.Attention.lean ====
/- The attention both programs compute, stated once over the extended reals and over whole arrays: queries `q`, rotary queries
   `r`, the latent cache's codes `c` and scales `s`, the rotary keys `p`. Per row and head: the scaled scores of the 65536
   tokens, their softmax, and the softmax applied to the codes under their scales. The sums are those of `Cert.Softmax`, over
   tokens numbered by naturals (`ofNat` extends an array's token axis by zero beyond its end, which no sum reaches). -/
module

public import proofs.«01_k».proof.Proof.Math
public import Idealize.ShloMosaic.Lib.Pointwise

@[expose] public section

noncomputable section

open Idealize.ShloMosaic
open scoped BigOperators

namespace Cert.Attention

/-- The word of minus infinity denotes `⊥`. -/
theorem negInf : Ideal.ofBits .f32 0xFF800000#32 = (⊥ : EReal) := by
  simp [Ideal.ofBits, Ideal.ieee]

/-- The softmax scale, the constant both programs print. -/
abbrev scale : EReal := Ideal.ofBits .f32 0x3D93CD3A#32

/-- A token's value by its number; zero past the last token. -/
def ofNat (f : Fin 65536 → EReal) (t : ℕ) : EReal := if h : t < 65536 then f ⟨t, h⟩ else 0

/-- A token's value by its number, the number a token's. -/
theorem ofNat_of_lt (f : Fin 65536 → EReal) {t : ℕ} (h : t < 65536) : ofNat f t = f ⟨t, h⟩ := dif_pos h

/-- A token's value by the token's own number. -/
theorem ofNat_val (f : Fin 65536 → EReal) (t : Fin 65536) : ofNat f t.val = f t := dif_pos t.isLt

abbrev SQ : Shape := ⟨3, ![32, 64, 512]⟩
abbrev SR : Shape := ⟨3, ![32, 64, 64]⟩
abbrev SC : Shape := ⟨3, ![32, 65536, 512]⟩
abbrev SS : Shape := ⟨2, ![32, 65536]⟩
abbrev SP : Shape := ⟨3, ![32, 65536, 64]⟩

variable (q : SQ.Idx → EReal) (r : SR.Idx → EReal) (c : SC.Idx → EReal) (s : SS.Idx → EReal) (p : SP.Idx → EReal)

/-- The scaled score of row `b`'s head `h` against token `t`. -/
def score (b : Fin 32) (h : Fin 64) (t : Fin 65536) : EReal :=
  ((∑ k : Fin 512, q (ix3 b h k) * c (ix3 b t k)) * s (ix2 b t) + ∑ k : Fin 64, r (ix3 b h k) * p (ix3 b t k)) * scale

/-- A head's scores by token number. -/
abbrev scores (b : Fin 32) (h : Fin 64) : ℕ → EReal := ofNat (score q r c s p b h)
/-- A row's scales by token number. -/
abbrev weights (b : Fin 32) : ℕ → EReal := ofNat fun t => s (ix2 b t)
/-- A row's codes at one latent coordinate, by token number. -/
abbrev values (b : Fin 32) (d : Fin 512) : ℕ → EReal := ofNat fun t => c (ix3 b t d)

/-- The attention's result at row `b`, head `h`, latent coordinate `d`. -/
def attend (b : Fin 32) (h : Fin 64) (d : Fin 512) : EReal :=
  Ideal.div (Softmax.num (scores q r c s p b h) (weights s b) (values c b d) 65536) (Softmax.den (scores q r c s p b h) 65536)

/-- The result written out over the 65536 tokens: the plain softmax. -/
theorem attend_eq (b : Fin 32) (h : Fin 64) (d : Fin 512) :
    attend q r c s p b h d
      = Ideal.div
          (∑ t : Fin 65536, Ideal.exp (score q r c s p b h t
              - (Finset.univ : Finset (Fin 65536)).fold max ⊥ fun u => score q r c s p b h u) * s (ix2 b t) * c (ix3 b t d))
          (∑ t : Fin 65536, Ideal.exp (score q r c s p b h t
              - (Finset.univ : Finset (Fin 65536)).fold max ⊥ fun u => score q r c s p b h u)) := by
  unfold attend
  rw [Softmax.num_eq_sum, Softmax.den_eq_sum, Softmax.top_eq_fold]
  simp only [ofNat_val]

end Cert.Attention

end
-- ==== Proof.Block.lean ====
/- What one block of the kernel computes over the extended reals: its payloads read at one head (and one latent coordinate).
   `score` is the scaled score of a head against one token of the block; the new maximum, denominator and numerator are the
   online-softmax update by the block's 2048 scores. -/
module

public import proofs.«01_k».proof.Proof.Case
public import proofs.«01_k».proof.Proof.Attention
public import Idealize.ShloMosaic.Lib.Pointwise

@[expose] public section

noncomputable section

open Idealize.ShloMosaic
open scoped BigOperators

namespace Cert.KernelIdeal.Block

open Cert.KernelIdeal Cert.KernelIdeal.Gen Cert.KernelIdeal.Case

variable (x0 : Vec Ideal S1x64x512 .bf16) (x1 : Vec Ideal S1x64x64 .bf16) (x2 : Vec Ideal S1x2048x512 .fp8e4m3)
  (x3 : Vec Ideal S1x1x2048 .f32) (x4 : Vec Ideal S1x2048x64 .bf16)
  (a l : Vec Ideal S64x1 .f32) (o : Vec Ideal S64x512 .f32)

/-- Head `h`'s scaled score against token `j` of the block. -/
def score (h : Fin 64) (j : Fin 2048) : EReal :=
  ((∑ k : Fin 512, x0 (ix3 0 h k) * x2 (ix3 0 j k)) * x3 (ix3 0 0 j) + ∑ k : Fin 64, x1 (ix3 0 h k) * x4 (ix3 0 j k)) * Attention.scale

/-- The printed scores, at one head and one token. -/
theorem pay10_apply (h : Fin 64) (j : Fin 2048) : k0_pay10 x0 x1 x2 x3 x4 (ix2 h j) = score x0 x1 x2 x3 x4 h j := by
  pointwise [k0_pay10, k0_pay8, k0_pay9, score]

/-- The new maximum before it is stored, at one head. -/
theorem pay11_apply (h : Fin 64) :
    k0_pay11 x0 x1 x2 x3 x4 a (ix2 h 0)
      = max (a (ix2 h 0)) ((Finset.univ : Finset (Fin 2048)).fold max ⊥ fun j => score x0 x1 x2 x3 x4 h j) := by
  pointwise [k0_pay11]
  simp only [pay10_apply, Attention.negInf]

/-- The new maximum, at one head. -/
theorem newM_apply (h : Fin 64) :
    newM x0 x1 x2 x3 x4 a (ix2 h 0)
      = max (a (ix2 h 0)) ((Finset.univ : Finset (Fin 2048)).fold max ⊥ fun j => score x0 x1 x2 x3 x4 h j) := by
  rw [← pay11_apply]
  pointwise [k0_pay2]

/-- The rescaling factor, at one head. -/
theorem pay12_apply (h : Fin 64) :
    k0_pay12 x0 x1 x2 x3 x4 a (ix2 h 0) = Ideal.exp (a (ix2 h 0) - newM x0 x1 x2 x3 x4 a (ix2 h 0)) := by
  rw [newM_apply, ← pay11_apply]
  pointwise [k0_pay12]

/-- The exponentials of the block's scores, relative to the new maximum. -/
theorem pay13_apply (h : Fin 64) (j : Fin 2048) :
    k0_pay13 x0 x1 x2 x3 x4 a (ix2 h j)
      = Ideal.exp (score x0 x1 x2 x3 x4 h j - newM x0 x1 x2 x3 x4 a (ix2 h 0)) := by
  rw [newM_apply, ← pay11_apply, ← pay10_apply]
  pointwise [k0_pay13]

/-- The new denominator, at one head: the old one rescaled, plus the block's exponentials. -/
theorem newL_apply (h : Fin 64) :
    newL x0 x1 x2 x3 x4 a l (ix2 h 0)
      = Ideal.exp (a (ix2 h 0) - newM x0 x1 x2 x3 x4 a (ix2 h 0)) * l (ix2 h 0)
        + ∑ j : Fin 2048, Ideal.exp (score x0 x1 x2 x3 x4 h j - newM x0 x1 x2 x3 x4 a (ix2 h 0)) := by
  pointwise [k0_pay1, k0_pay14]
  simp only [pay12_apply, pay13_apply]

/-- The new numerator, at one head and one latent coordinate: the old one rescaled, plus the block's codes under their
    exponentials and scales. -/
theorem newO_apply (h : Fin 64) (d : Fin 512) :
    newO x0 x1 x2 x3 x4 a o (ix2 h d)
      = Ideal.exp (a (ix2 h 0) - newM x0 x1 x2 x3 x4 a (ix2 h 0)) * o (ix2 h d)
        + ∑ j : Fin 2048, Ideal.exp (score x0 x1 x2 x3 x4 h j - newM x0 x1 x2 x3 x4 a (ix2 h 0)) * x3 (ix3 0 0 j) * x2 (ix3 0 j d) := by
  pointwise [k0_pay3, k0_pay8, k0_pay9]
  simp only [pay12_apply, pay13_apply]

/-- The output block: numerator over denominator. -/
theorem pay4_apply (h : Fin 64) (d : Fin 512) :
    k0_pay4 o l (ix3 0 h d) = Ideal.div (o (ix2 h d)) (l (ix2 h 0)) := by
  pointwise [k0_pay4]

/-- A row starts with the maximum `⊥` … -/
theorem pay5_apply (h : Fin 64) : k0_pay5 (F := Ideal) (ix2 h 0) = (⊥ : EReal) := by
  pointwise [k0_pay5]
  exact Attention.negInf

/-- … the denominator zero … -/
theorem pay6_apply (h : Fin 64) : k0_pay6 (F := Ideal) (ix2 h 0) = (0 : EReal) := by
  pointwise [k0_pay6]

/-- … and the numerator zero. -/
theorem pay7_apply (h : Fin 64) (d : Fin 512) : k0_pay7 (F := Ideal) (ix2 h d) = (0 : EReal) := by
  pointwise [k0_pay7]

end Cert.KernelIdeal.Block

end
-- ==== Proof.Arrays.lean ====
/- What the kernel's blocks hold: each block at an index, read off the argument arrays. At point `t` of the 32 × 32 grid the
   row is `t / 32`, the block of tokens `t % 32`, and the block's token `j` is the row's token `2048 · (t % 32) + j`. -/
module

public import proofs.«01_k».proof.Proof.Block
public import proofs.«01_k».proof.Proof.Gen.KernelIdeal.Value
public import Idealize.ShloMosaic.Lib.Pipeline.ValueKit.Point
public import Idealize.ShloMosaic.Lib.Claim

@[expose] public section

noncomputable section

open Idealize.ShloMosaic Idealize.ShloMosaic.TcCoe Idealize.SL.Sem
open scoped BigOperators

namespace Cert.KernelIdeal.Arrays

open Cert.KernelIdeal Cert.KernelIdeal.Gen

/-- The six windows' block numbers at point `t`. -/
theorem idx : ∀ t : Fin cfg0.N,
    win0_0.index t = ![t.val / 32, 0, 0] ∧ win0_1.index t = ![t.val / 32, 0, 0]
      ∧ win0_2.index t = ![t.val / 32, t.val % 32, 0] ∧ win0_3.index t = ![t.val / 32, 0, t.val % 32]
      ∧ win0_4.index t = ![t.val / 32, t.val % 32, 0] :=
  (by decide +kernel : ∀ t : Fin grid0.N, _)

/-- The row of point `t`. -/
abbrev row (t : Fin cfg0.N) : Fin 32 := ⟨t.val / 32, by have := lt_of_lt_of_eq t.isLt N_0; omega⟩
/-- The row's token that is token `j` of point `t`'s block. -/
abbrev tok (t : Fin cfg0.N) (j : Fin 2048) : Fin 65536 :=
  ⟨2048 * (t.val % 32) + j.val, by omega⟩

variable (m : (ℓ : Loc nD τ sig) → Buf (Elt Ideal) ℓ) (c : Dev nD)

/-- The queries, one row of 64 heads at a time. -/
abbrev Q : Attention.SQ.Idx → EReal :=
  shapeCast S32x64x512 (m ((c : Thread nD τ).loc main_arg0)) shapeCasts_S32x1x32768_S32x64x512
/-- The rotary queries, one row of 64 heads at a time. -/
abbrev R : Attention.SR.Idx → EReal :=
  shapeCast S32x64x64 (m ((c : Thread nD τ).loc main_arg1)) shapeCasts_S32x1x64x64_S32x64x64
/-- The cache's codes. -/
abbrev C : Attention.SC.Idx → EReal := m ((c : Thread nD τ).loc main_arg2)
/-- The cache's scales. -/
abbrev S : Attention.SS.Idx → EReal := m ((c : Thread nD τ).loc main_arg3)
/-- The rotary keys. -/
abbrev P : Attention.SP.Idx → EReal := m ((c : Thread nD τ).loc main_arg4)

/-- The queries' buffer at the kernel's entry. -/
theorem V_main_v0 : V m c main_v0 = Q m c := by
  entry_read
  rfl
/-- The rotary queries' buffer at the kernel's entry. -/
theorem V_main_v1 : V m c main_v1 = R m c := by
  entry_read
  rfl

/-- The queries' block. -/
theorem iblk0 (t : Fin cfg0.N) (h : Fin 64) (k : Fin 512) :
    iblk m c 0 t (ix3 0 h k) = Q m c (ix3 (row t) h k) := by
  rw [← V_main_v0]
  blk_ext! [iblk, idx t]

/-- The rotary queries' block. -/
theorem iblk1 (t : Fin cfg0.N) (h : Fin 64) (k : Fin 64) :
    iblk m c 1 t (ix3 0 h k) = R m c (ix3 (row t) h k) := by
  rw [← V_main_v1]
  blk_ext! [iblk, idx t]

/-- The codes' block. -/
theorem iblk2 (t : Fin cfg0.N) (j : Fin 2048) (k : Fin 512) :
    iblk m c 2 t (ix3 0 j k) = C m c (ix3 (row t) (tok t j) k) := by
  blk_ext! [iblk, V, idx t]

/-- The scales' block. -/
theorem iblk3 (t : Fin cfg0.N) (j : Fin 2048) :
    iblk m c 3 t (ix3 0 0 j) = S m c (ix2 (row t) (tok t j)) := by
  blk_ext! [iblk, V, idx t]

/-- The rotary keys' block. -/
theorem iblk4 (t : Fin cfg0.N) (j : Fin 2048) (k : Fin 64) :
    iblk m c 4 t (ix3 0 j k) = P m c (ix3 (row t) (tok t j) k) := by
  blk_ext! [iblk, V, idx t]

end Cert.KernelIdeal.Arrays

end
-- ==== Proof.Fold.lean ====
/- The kernel's result array. After each point the three carried scratch arrays hold, of the point's row, the running maximum,
   denominator and numerator of the tokens seen so far (by induction on the point); after a row's last point they are those of
   all 65536 tokens, and the block written back is their quotient. -/
module

public import proofs.«01_k».proof.Proof.Arrays

@[expose] public section

noncomputable section

open Idealize.ShloMosaic Idealize.ShloMosaic.TcCoe Idealize.SL.Sem
open scoped BigOperators

namespace Cert.KernelIdeal.Fold

open Cert.KernelIdeal Cert.KernelIdeal.Gen Cert.KernelIdeal.Value Cert.KernelIdeal.Case Cert.KernelIdeal.Arrays

variable (m : (ℓ : Loc nD τ sig) → Buf (Elt Ideal) ℓ) (c : Dev nD)

/-- Head `h`'s scores of row `b`, by token number. -/
abbrev sc (b : Fin 32) (h : Fin 64) : ℕ → EReal := Attention.scores (Q m c) (R m c) (C m c) (S m c) (P m c) b h
/-- The scales of row `b`, by token number. -/
abbrev wt (b : Fin 32) : ℕ → EReal := Attention.weights (S m c) b
/-- The codes of row `b` at latent coordinate `d`, by token number. -/
abbrev vl (b : Fin 32) (d : Fin 512) : ℕ → EReal := Attention.values (C m c) b d

/-- Three scratch arrays hold the running maximum, denominator and numerator of row `b`'s first `n` tokens. -/
structure Holds (b : Fin 32) (n : ℕ) (a l : Vec Ideal S64x1 .f32) (o : Vec Ideal S64x512 .f32) : Prop where
  max : ∀ h : Fin 64, a (ix2 h 0) = Softmax.top (sc m c b h) n
  den : ∀ h : Fin 64, l (ix2 h 0) = Softmax.den (sc m c b h) n
  num : ∀ (h : Fin 64) (d : Fin 512), o (ix2 h d) = Softmax.num (sc m c b h) (wt m c b) (vl m c b d) n

/-- The reset scratch holds those of no token. -/
theorem holds_init (b : Fin 32) : Holds m c b 0 (k0_pay5 (F := Ideal)) (k0_pay6 (F := Ideal)) (k0_pay7 (F := Ideal)) where
  max h := (Block.pay5_apply h).trans (Softmax.top_zero _).symm
  den h := (Block.pay6_apply h).trans (Softmax.den_zero _).symm
  num h d := (Block.pay7_apply h d).trans (Softmax.num_zero _ _ _).symm

/-- The block's score against its token `j` is the row's score against that token. -/
theorem score_eq (t : Fin cfg0.N) (h : Fin 64) (j : Fin 2048) :
    Block.score (iblk m c 0 t) (iblk m c 1 t) (iblk m c 2 t) (iblk m c 3 t) (iblk m c 4 t) h j
      = sc m c (row t) h (2048 * (t.val % 32) + j.val) := by
  rw [show sc m c (row t) h (2048 * (t.val % 32) + j.val) = _ from Attention.ofNat_val _ (tok t j)]
  unfold Block.score Attention.score
  simp only [iblk0, iblk1, iblk2, iblk3, iblk4]

/-- One point's update: from the tokens before the point's block to the tokens through it. -/
theorem holds_step (t : Fin cfg0.N) (a l : Vec Ideal S64x1 .f32) (o : Vec Ideal S64x512 .f32)
    (H : Holds m c (row t) (2048 * (t.val % 32)) a l o) :
    Holds m c (row t) (2048 * (t.val % 32) + 2048)
      (newM (iblk m c 0 t) (iblk m c 1 t) (iblk m c 2 t) (iblk m c 3 t) (iblk m c 4 t) a)
      (newL (iblk m c 0 t) (iblk m c 1 t) (iblk m c 2 t) (iblk m c 3 t) (iblk m c 4 t) a l)
      (newO (iblk m c 0 t) (iblk m c 1 t) (iblk m c 2 t) (iblk m c 3 t) (iblk m c 4 t) a o) := by
  have hM : ∀ h : Fin 64, newM (iblk m c 0 t) (iblk m c 1 t) (iblk m c 2 t) (iblk m c 3 t) (iblk m c 4 t) a (ix2 h 0)
      = Softmax.top (sc m c (row t) h) (2048 * (t.val % 32) + 2048) := fun h => by
    rw [Block.newM_apply, Softmax.top_step, H.max h]
    simp only [score_eq]
  refine ⟨hM, fun h => ?_, fun h d => ?_⟩
  · rw [Block.newL_apply, Softmax.den_step, hM h, H.max h, H.den h]
    simp only [score_eq]
  · rw [Block.newO_apply, Softmax.num_step, hM h, H.max h, H.num h d]
    simp only [score_eq]
    refine congrArg _ (Finset.sum_congr rfl fun j _ => ?_)
    rw [show wt m c (row t) (2048 * (t.val % 32) + j.val) = _ from Attention.ofNat_val _ (tok t j),
      show vl m c (row t) d (2048 * (t.val % 32) + j.val) = _ from Attention.ofNat_val _ (tok t j), iblk2, iblk3]

/-- After point `n` the scratch holds the running maximum, denominator and numerator of its row's tokens so far. -/
theorem holds : ∀ (n : ℕ) (hn : n < cfg0.N),
    Holds m c (row ⟨n, hn⟩) (2048 * (n % 32) + 2048) (outsAt0 m c n hn).2.1 (outsAt0 m c n hn).2.2.1 (outsAt0 m c n hn).2.2.2 := by
  intro n
  induction n with
  | zero =>
    intro hn
    have h0 : (⟨0, hn⟩ : Fin cfg0.N).val % 32 = 0 := rfl
    have h1 : ¬(⟨0, hn⟩ : Fin cfg0.N).val % 32 = 31 := by show ¬0 % 32 = 31; decide
    have e := outsAt0_A m c ⟨0, hn⟩ h0 h1
    rw [sout_A_0, sout_A_1, sout_A_2] at e
    rw [show outsAt0 m c 0 hn = _ from e]
    exact holds_step m c ⟨0, hn⟩ _ _ _ (holds_init m c _)
  | succ n ih =>
    intro hn
    have hN : n + 1 < 1024 := lt_of_lt_of_eq hn N_0
    by_cases h0 : (n + 1) % 32 = 0
    · have h1 : ¬(n + 1) % 32 = 31 := by omega
      have e := outsAt0_A m c ⟨n + 1, hn⟩ h0 h1
      rw [sout_A_0, sout_A_1, sout_A_2] at e
      rw [show outsAt0 m c (n + 1) hn = _ from e]
      refine holds_step m c ⟨n + 1, hn⟩ _ _ _ ?_
      rw [show (⟨n + 1, hn⟩ : Fin cfg0.N).val % 32 = 0 from h0]
      exact holds_init m c _
    · have ih := ih (Nat.lt_of_succ_lt hn)
      have hr : row ⟨n, Nat.lt_of_succ_lt hn⟩ = row ⟨n + 1, hn⟩ := Fin.ext (by show n / 32 = (n + 1) / 32; omega)
      rw [hr, show 2048 * (n % 32) + 2048 = 2048 * ((n + 1) % 32) by omega] at ih
      by_cases h1 : (n + 1) % 32 = 31
      · have e := outsAt0_C m c ⟨n + 1, hn⟩ h0 h1
        rw [sout_C_0, sout_C_1, sout_C_2] at e
        rw [show outsAt0 m c (n + 1) hn = _ from e]
        exact holds_step m c ⟨n + 1, hn⟩ _ _ _ ih
      · have e := outsAt0_B m c ⟨n + 1, hn⟩ h0 h1
        rw [sout_B_0, sout_B_1, sout_B_2] at e
        rw [show outsAt0 m c (n + 1) hn = _ from e]
        exact holds_step m c ⟨n + 1, hn⟩ _ _ _ ih

/-- The block a row's last point writes back: the quotient of what that point leaves in the scratch. -/
theorem out_last (t : Fin cfg0.N) (h1 : t.val % 32 = 31) :
    (outsAt0 m c t.val t.isLt).1 = k0_pay4 (outsAt0 m c t.val t.isLt).2.2.2 (outsAt0 m c t.val t.isLt).2.2.1 := by
  have h0 : ¬t.val % 32 = 0 := by omega
  rw [outsAt0_C m c t h0 h1]
  dsimp only
  rw [out_C_5, sout_C_1, sout_C_2]

/-- The result array at row `b`, head `h`, latent coordinate `d`: the row's attention. -/
theorem G5_apply (b : Fin 32) (h : Fin 64) (d : Fin 512) :
    G5 m c (ix3 b h d) = Attention.attend (Q m c) (R m c) (C m c) (S m c) (P m c) b h d := by
  have hp : pt5Of (ix3 b h d) = 32 * b.val + 31 := by
    show 32 * (1 * (b.val / 1 - 0) + 1 * (h.val / 64 - 0) + 1 * (d.val / 512 - 0)) + 31 = _
    omega
  have hlt : pt5Of (ix3 b h d) < cfg0.N := by rw [hp, show cfg0.N = 1024 from N_0]; omega
  have hl : loc5Of (ix3 b h d) = ix3 0 h d := by
    funext a
    apply Fin.ext
    match a with
    | ⟨0, _⟩ => show b.val % 1 = 0; omega
    | ⟨1, _⟩ => show h.val % 64 = h.val; omega
    | ⟨2, _⟩ => show d.val % 512 = d.val; omega
  have hmod : pt5Of (ix3 b h d) % 32 = 31 := by omega
  have H := holds m c _ hlt
  have hr : row ⟨pt5Of (ix3 b h d), hlt⟩ = b := Fin.ext (by show pt5Of (ix3 b h d) / 32 = b.val; omega)
  rw [hr, hmod] at H
  unfold G5
  rw [dif_pos hlt, ← outsAt0_sweep m c _ hlt, hl, out_last m c ⟨_, hlt⟩ hmod, Block.pay4_apply, H.num, H.den]
  rfl

end Cert.KernelIdeal.Fold

end
-- ==== Proof.RefBlock.lean ====
/- What the reference's body computes over the extended reals: its one payload read at a row, a head and a latent coordinate —
   the plain softmax of the row's 65536 scores applied to the codes under their scales. -/
module

public import proofs.«01_k».proof.Proof.Gen.ReferenceIdeal.Skeleton
public import proofs.«01_k».proof.Proof.Attention
public import Idealize.ShloMosaic.Lib.Pointwise

@[expose] public section

noncomputable section

open Idealize.ShloMosaic
open scoped BigOperators

namespace Cert.ReferenceIdeal.Block

open Cert.ReferenceIdeal Cert.ReferenceIdeal.Gen

variable (q : Vec Ideal S32x64x512 .bf16) (r : Vec Ideal S32x64x64 .bf16) (c : Vec Ideal S32x65536x512 .fp8e4m3)
  (s : Vec Ideal S32x65536 .f32) (p : Vec Ideal S32x65536x64 .bf16)

/-- The reference's result at row `b`, head `h`, latent coordinate `d`: the row's plain softmax attention. -/
theorem pay1_apply (b : Fin 32) (h : Fin 64) (d : Fin 512) :
    k0_pay1 c s q r p (ix3 b h d) = Attention.attend q r c s p b h d := by
  rw [Attention.attend_eq]
  pointwise [k0_pay1]
  simp only [Attention.negInf, Attention.score]

end Cert.ReferenceIdeal.Block

end
-- ==== Proof.RefValue.lean ====
/- The reference's result array: its one grid point loads every whole array and stores the whole result, so the array ends
   holding the reference's payload of the arguments, which is each row's attention. -/
module

public import proofs.«01_k».proof.Proof.RefBlock
public import proofs.«01_k».proof.Proof.Gen.ReferenceIdeal.Value
public import Idealize.ShloMosaic.Lib.Pipeline.ValueKit.Point
public import Idealize.ShloMosaic.Lib.Claim

@[expose] public section

noncomputable section

open Idealize.ShloMosaic Idealize.ShloMosaic.TcCoe Idealize.SL.Sem

namespace Cert.ReferenceIdeal.Result

open Cert.ReferenceIdeal Cert.ReferenceIdeal.Gen

variable (m : (ℓ : Loc nD τ sig) → Buf (Elt Ideal) ℓ) (c : Dev nD)

/-- The queries, one row of 64 heads at a time. -/
abbrev Q : Attention.SQ.Idx → EReal :=
  shapeCast S32x64x512 (m ((c : Thread nD τ).loc main_arg0)) shapeCasts_S32x1x32768_S32x64x512
/-- The rotary queries, one row of 64 heads at a time. -/
abbrev R : Attention.SR.Idx → EReal :=
  shapeCast S32x64x64 (m ((c : Thread nD τ).loc main_arg1)) shapeCasts_S32x1x64x64_S32x64x64
/-- The cache's codes. -/
abbrev C : Attention.SC.Idx → EReal := m ((c : Thread nD τ).loc main_arg2)
/-- The cache's scales. -/
abbrev S : Attention.SS.Idx → EReal := m ((c : Thread nD τ).loc main_arg3)
/-- The rotary keys. -/
abbrev P : Attention.SP.Idx → EReal := m ((c : Thread nD τ).loc main_arg4)

/-- The queries' buffer at the kernel's entry. -/
theorem V_main_v0 : V m c main_v0 = Q m c := by
  entry_read
  rfl
/-- The rotary queries' buffer at the kernel's entry. -/
theorem V_main_v1 : V m c main_v1 = R m c := by
  entry_read
  rfl

/-- The one grid point. -/
abbrev t₀ : Fin cfg0.N := ⟨0, by decide⟩

/-- The input windows' block numbers are zero. -/
theorem idx : win0_0.index t₀ = ![0, 0, 0] ∧ win0_1.index t₀ = ![0, 0, 0] ∧ win0_2.index t₀ = ![0, 0, 0]
    ∧ win0_3.index t₀ = ![0, 0] ∧ win0_4.index t₀ = ![0, 0, 0] := by
  decide +kernel

/-- Two zero offsets. -/
theorem hz2 : (![0, 0] : Fin 2 → Nat) = fun _ => 0 := funext fun a => by fin_cases a <;> rfl
/-- Three zero offsets. -/
theorem hz3 : (![0, 0, 0] : Fin 3 → Nat) = fun _ => 0 := funext fun a => by fin_cases a <;> rfl

/-- The whole-array loads read the arrays and the one covering store leaves its payload. -/
theorem out_eq (x0 : Vec Ideal S32x64x512 .bf16) (x1 : Vec Ideal S32x64x64 .bf16) (x2 : Vec Ideal S32x65536x512 .fp8e4m3)
    (x3 : Vec Ideal S32x65536 .f32) (x4 : Vec Ideal S32x65536x64 .bf16) :
    out0_5 x0 x1 x2 x3 x4 = k0_pay1 x2 x3 x0 x1 x4 := by
  unfold out0_5
  rw [View.canon_unit_zero hz3, View.ld_unit_zero hz3, View.ld_unit_zero hz2, View.ld_unit_zero hz3, View.ld_unit_zero hz3,
    View.ld_unit_zero hz3]

/-- The queries' block is their whole array. -/
theorem iblk0 : iblk m c 0 t₀ = Q m c := by
  rw [← V_main_v0]
  funext y
  blk_ext! [iblk, idx]
/-- The rotary queries' block is their whole array. -/
theorem iblk1 : iblk m c 1 t₀ = R m c := by
  rw [← V_main_v1]
  funext y
  blk_ext! [iblk, idx]
/-- The codes' block is their whole array. -/
theorem iblk2 : iblk m c 2 t₀ = C m c := by
  funext y
  blk_ext! [iblk, V, idx]
/-- The scales' block is their whole array. -/
theorem iblk3 : iblk m c 3 t₀ = S m c := by
  funext y
  blk_ext! [iblk, V, idx]
/-- The rotary keys' block is their whole array. -/
theorem iblk4 : iblk m c 4 t₀ = P m c := by
  funext y
  blk_ext! [iblk, V, idx]

/-- The result array after the run is the reference's payload of the five arrays. -/
theorem arrAt_eq : (dats m 0 c).arrAt 5 cfg0.N = k0_pay1 (F := Ideal) (C m c) (S m c) (Q m c) (R m c) (P m c) := by
  have ho := Value.blocks5 m c t₀ (by decide)
  rw [Value.flushed5, out_eq, iblk0, iblk1, iblk2, iblk3, iblk4] at ho
  have hz : (fun a => (win0_5.index t₀) a * main_v2.ty.shape.size a) = fun _ => 0 := funext fun a => by fin_cases a <;> decide
  have hr := fun f => Memref.read_access_unit_zero (Elt Ideal) main_v2 hz (fun a => by fin_cases a <;> decide) f
  rw [hr] at ho
  exact ho

/-- The result array at row `b`, head `h`, latent coordinate `d`: the row's attention. -/
theorem arrAt_apply (b : Fin 32) (h : Fin 64) (d : Fin 512) :
    (dats m 0 c).arrAt 5 cfg0.N (ix3 b h d) = Attention.attend (Q m c) (R m c) (C m c) (S m c) (P m c) b h d := by
  rw [arrAt_eq]
  exact Block.pay1_apply _ _ _ _ _ b h d

end Cert.ReferenceIdeal.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Fold
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The kernel's idealization and the reference leave the same result array, and change no argument. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Value.G5 m c, Cert.KernelIdeal.Value.run m g, ?_⟩
  refine (θ_run _ _ _).mono (fun r h c => ⟨(h c).1.trans ?_, (h c).2⟩) (Cert.ReferenceIdeal.Value.run_blocks m' g')
  obtain ⟨e0, e1, e2, e3, e4⟩ := hargs c
  funext i
  obtain ⟨b, h, d, rfl⟩ : ∃ (b : Fin 32) (h : Fin 64) (d : Fin 512), i = ix3 b h d :=
    ⟨i 0, i 1, i 2, funext fun a => by fin_cases a <;> rfl⟩
  refine (Cert.ReferenceIdeal.Result.arrAt_apply m' c b h d).trans (Eq.trans ?_ (Cert.KernelIdeal.Fold.G5_apply m c b h d).symm)
  have hQ : Cert.ReferenceIdeal.Result.Q m' c = Cert.KernelIdeal.Arrays.Q m c := congrArg (shapeCast _ · _) e0
  have hR : Cert.ReferenceIdeal.Result.R m' c = Cert.KernelIdeal.Arrays.R m c := congrArg (shapeCast _ · _) e1
  have hC : Cert.ReferenceIdeal.Result.C m' c = Cert.KernelIdeal.Arrays.C m c := e2
  have hS : Cert.ReferenceIdeal.Result.S m' c = Cert.KernelIdeal.Arrays.S m c := e3
  have hP : Cert.ReferenceIdeal.Result.P m' c = Cert.KernelIdeal.Arrays.P m c := e4
  rw [hQ, hR, hC, hS, hP]

/-- Everything the certificate claims. -/
theorem claim : Cert.Claim := ⟨Cert.Kernel.Gen.facts, Cert.KernelIdeal.Gen.facts, Cert.ReferenceIdeal.Gen.facts,
  fun m g _ => Cert.Kernel.Gen.frame m g,
  fun m g _ => Cert.KernelIdeal.Gen.frame m g,
  fun m g _ => Cert.ReferenceIdeal.Gen.frame m g,
  trivial,
  algebraic⟩

end Cert.Proof

end
